-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "third" .f32 0x42055555#32 ((100 / 3 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3x512x1024 : Shape := ⟨4, ![8, 3, 512, 1024]⟩
abbrev S8x4x512x1024 : Shape := ⟨4, ![8, 4, 512, 1024]⟩
abbrev S1x1 : Shape := ⟨2, ![1, 1]⟩
abbrev S8x3x32x1024 : Shape := ⟨4, ![8, 3, 32, 1024]⟩
abbrev S8x4x32x1024 : Shape := ⟨4, ![8, 4, 32, 1024]⟩
abbrev S544x160 : Shape := ⟨2, ![544, 160]⟩
abbrev S17x1x1 : Shape := ⟨3, ![17, 1, 1]⟩
abbrev S1x1x32x1024 : Shape := ⟨4, ![1, 1, 32, 1024]⟩
abbrev S32x1024 : Shape := ⟨2, ![32, 1024]⟩
abbrev S1x32x1024 : Shape := ⟨3, ![1, 32, 1024]⟩
abbrev S17x32x1024 : Shape := ⟨3, ![17, 32, 1024]⟩
abbrev S16x32x1024 : Shape := ⟨3, ![16, 32, 1024]⟩
abbrev S5x1x1 : Shape := ⟨3, ![5, 1, 1]⟩
abbrev S1x4x32x1024 : Shape := ⟨4, ![1, 4, 32, 1024]⟩
abbrev S4x32x1024 : Shape := ⟨3, ![4, 32, 1024]⟩
abbrev S5x32x1024 : Shape := ⟨3, ![5, 32, 1024]⟩
abbrev S544x1024 : Shape := ⟨2, ![544, 1024]⟩
abbrev S160x1024 : Shape := ⟨2, ![160, 1024]⟩
abbrev S17x544 : Shape := ⟨2, ![17, 544]⟩
abbrev S160x5 : Shape := ⟨2, ![160, 5]⟩
abbrev S17x160 : Shape := ⟨2, ![17, 160]⟩
abbrev S17x5 : Shape := ⟨2, ![17, 5]⟩
abbrev S16x4 : Shape := ⟨2, ![16, 4]⟩
abbrev S16x1 : Shape := ⟨2, ![16, 1]⟩
abbrev S1x4 : Shape := ⟨2, ![1, 4]⟩
abbrev S1x16x4 : Shape := ⟨3, ![1, 16, 4]⟩
abbrev S1 : Shape := ⟨1, ![1]⟩
abbrev S1x1x1 : Shape := ⟨3, ![1, 1, 1]⟩
abbrev S1x16x1 : Shape := ⟨3, ![1, 16, 1]⟩
abbrev S1x1x4 : Shape := ⟨3, ![1, 1, 4]⟩

abbrev nBuf : Space → Nat
  | .hbm => 3
  | .vmem => 6
  | .smem => 0
  | _ => 0

abbrev bufTy : (tb : Table) → Fin (tcTables nBuf tb) → BufTy
  | .hbm, ⟨0, _⟩ => ⟨S8x3x512x1024, .f32⟩
  | .hbm, ⟨1, _⟩ => ⟨S8x4x512x1024, .f32⟩
  | .hbm, ⟨2, _⟩ => ⟨S1x1, .f32⟩
  | .local _ .vmem, ⟨0, _⟩ => ⟨S8x3x32x1024, .f32⟩
  | .local _ .vmem, ⟨1, _⟩ => ⟨S8x3x32x1024, .f32⟩
  | .local _ .vmem, ⟨2, _⟩ => ⟨S8x4x32x1024, .f32⟩
  | .local _ .vmem, ⟨3, _⟩ => ⟨S8x4x32x1024, .f32⟩
  | .local _ .vmem, ⟨4, _⟩ => ⟨S1x1, .f32⟩
  | .local _ .vmem, ⟨5, _⟩ => ⟨S544x160, .f32⟩
  | _, _ => ⟨S8x3x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v516 : BitVec 1 := Scalar.cmpi .eq arg0 c15_i32
  let v517 : BitVec 32 := Scalar.extui v516
  let c0_i32_75 : BitVec 32 := 0#32
  let v518 : BitVec 1 := Scalar.cmpi .ne v517 c0_i32_75
  v518

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x3x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "third" => some ((100 / 3 : ℝ) : EReal)
  | _ => none
-- ==== ReferenceIdeal.lean ====
abbrev S8x3x512x1024 : Shape := ⟨4, ![8, 3, 512, 1024]⟩
abbrev S8x4x512x1024 : Shape := ⟨4, ![8, 4, 512, 1024]⟩
abbrev S_ : Shape := ⟨0, ![]⟩
abbrev S8x512x1024 : Shape := ⟨3, ![8, 512, 1024]⟩
abbrev S8x1x512x1024 : Shape := ⟨4, ![8, 1, 512, 1024]⟩
abbrev S4 : Shape := ⟨1, ![4]⟩
abbrev S8x524288 : Shape := ⟨2, ![8, 524288]⟩
abbrev S16 : Shape := ⟨1, ![16]⟩
abbrev S1x8x524288 : Shape := ⟨3, ![1, 8, 524288]⟩
abbrev S16x1x1 : Shape := ⟨3, ![16, 1, 1]⟩
abbrev S16x8x524288 : Shape := ⟨3, ![16, 8, 524288]⟩
abbrev S16x524288 : Shape := ⟨2, ![16, 524288]⟩
abbrev S4x1x1 : Shape := ⟨3, ![4, 1, 1]⟩
abbrev S4x8x524288 : Shape := ⟨3, ![4, 8, 524288]⟩
abbrev S4x524288 : Shape := ⟨2, ![4, 524288]⟩
abbrev S524288x4 : Shape := ⟨2, ![524288, 4]⟩
abbrev S16x4 : Shape := ⟨2, ![16, 4]⟩
abbrev S16x1 : Shape := ⟨2, ![16, 1]⟩
abbrev S1x4 : Shape := ⟨2, ![1, 4]⟩
abbrev S1x1 : Shape := ⟨2, ![1, 1]⟩

abbrev nBuf : Space → Nat
  | .hbm => 164
  | .vmem => 0
  | .smem => 0
  | _ => 0

abbrev hbmTy0_0 (i : Nat) : BufTy := match i % 128 with
  | 0 => ⟨S8x3x512x1024, .f32⟩
  | 1 => ⟨S8x4x512x1024, .f32⟩
  | 2 => ⟨S_, .f32⟩
  | 3 => ⟨S8x512x1024, .f32⟩
  | 4 => ⟨S_, .f32⟩
  | 5 => ⟨S8x512x1024, .f32⟩
  | 6 => ⟨S8x512x1024, .f32⟩
  | 7 => ⟨S_, .f32⟩
  | 8 => ⟨S8x512x1024, .f32⟩
  | 9 => ⟨S8x1x512x1024, .f32⟩
  | 10 => ⟨S8x4x512x1024, .f32⟩
  | 11 => ⟨S8x4x512x1024, .f32⟩
  | 12 => ⟨S_, .f32⟩
  | 13 => ⟨S8x4x512x1024, .f32⟩
  | 14 => ⟨S8x4x512x1024, .f32⟩
  | 15 => ⟨S8x4x512x1024, .f32⟩
  | 16 => ⟨S_, .f32⟩
  | 17 => ⟨S8x512x1024, .f32⟩
  | 18 => ⟨S8x1x512x1024, .f32⟩
  | 19 => ⟨S_, .f32⟩
  | 20 => ⟨S8x1x512x1024, .f32⟩
  | 21 => ⟨S8x1x512x1024, .f32⟩
  | 22 => ⟨S8x4x512x1024, .f32⟩
  | 23 => ⟨S8x4x512x1024, .f32⟩
  | 24 => ⟨S4, .f32⟩
  | 25 => ⟨S8x512x1024, .f32⟩
  | 26 => ⟨S8x524288, .f32⟩
  | 27 => ⟨S8x524288, .f32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S1x8x524288, .f32⟩
  | 36 => ⟨S16x1x1, .f32⟩
  | 37 => ⟨S16x8x524288, .f32⟩
  | 38 => ⟨S16x8x524288, .f32⟩
  | 39 => ⟨S16x8x524288, .f32⟩
  | 40 => ⟨S_, .f32⟩
  | 41 => ⟨S16x8x524288, .f32⟩
  | 42 => ⟨S16x8x524288, .f32⟩
  | 43 => ⟨S_, .f32⟩
  | 44 => ⟨S16x8x524288, .f32⟩
  | 45 => ⟨S16x8x524288, .f32⟩
  | 46 => ⟨S16x8x524288, .f32⟩
  | 47 => ⟨S16x8x524288, .f32⟩
  | 48 => ⟨S_, .f32⟩
  | 49 => ⟨S16x8x524288, .f32⟩
  | 50 => ⟨S16x8x524288, .f32⟩
  | 51 => ⟨S_, .f32⟩
  | 52 => ⟨S16x8x524288, .f32⟩
  | 53 => ⟨S16x8x524288, .f32⟩
  | 54 => ⟨S_, .f32⟩
  | 55 => ⟨S16x8x524288, .f32⟩
  | 56 => ⟨S16x8x524288, .f32⟩
  | 57 => ⟨S_, .f32⟩
  | 58 => ⟨S16x8x524288, .f32⟩
  | 59 => ⟨S16x8x524288, .f32⟩
  | 60 => ⟨S16x8x524288, .f32⟩
  | 61 => ⟨S16x8x524288, .f32⟩
  | 62 => ⟨S_, .f32⟩
  | 63 => ⟨S16x8x524288, .f32⟩
  | 64 => ⟨S16x8x524288, .f32⟩
  | 65 => ⟨S_, .f32⟩
  | 66 => ⟨S16x8x524288, .f32⟩
  | 67 => ⟨S16x8x524288, .f32⟩
  | 68 => ⟨S16x8x524288, .f32⟩
  | 69 => ⟨S_, .f32⟩
  | 70 => ⟨S16x524288, .f32⟩
  | 71 => ⟨S4, .f32⟩
  | 72 => ⟨S1x8x524288, .f32⟩
  | 73 => ⟨S4x1x1, .f32⟩
  | 74 => ⟨S4x8x524288, .f32⟩
  | 75 => ⟨S4x8x524288, .f32⟩
  | 76 => ⟨S4x8x524288, .f32⟩
  | 77 => ⟨S_, .f32⟩
  | 78 => ⟨S4x8x524288, .f32⟩
  | 79 => ⟨S4x8x524288, .f32⟩
  | 80 => ⟨S_, .f32⟩
  | 81 => ⟨S4x8x524288, .f32⟩
  | 82 => ⟨S4x8x524288, .f32⟩
  | 83 => ⟨S4x8x524288, .f32⟩
  | 84 => ⟨S4x8x524288, .f32⟩
  | 85 => ⟨S_, .f32⟩
  | 86 => ⟨S4x8x524288, .f32⟩
  | 87 => ⟨S4x8x524288, .f32⟩
  | 88 => ⟨S_, .f32⟩
  | 89 => ⟨S4x8x524288, .f32⟩
  | 90 => ⟨S4x8x524288, .f32⟩
  | 91 => ⟨S_, .f32⟩
  | 92 => ⟨S4x8x524288, .f32⟩
  | 93 => ⟨S4x8x524288, .f32⟩
  | 94 => ⟨S_, .f32⟩
  | 95 => ⟨S4x8x524288, .f32⟩
  | 96 => ⟨S4x8x524288, .f32⟩
  | 97 => ⟨S4x8x524288, .f32⟩
  | 98 => ⟨S4x8x524288, .f32⟩
  | 99 => ⟨S_, .f32⟩
  | 100 => ⟨S4x8x524288, .f32⟩
  | 101 => ⟨S4x8x524288, .f32⟩
  | 102 => ⟨S_, .f32⟩
  | 103 => ⟨S4x8x524288, .f32⟩
  | 104 => ⟨S4x8x524288, .f32⟩
  | 105 => ⟨S4x8x524288, .f32⟩
  | 106 => ⟨S_, .f32⟩
  | 107 => ⟨S4x524288, .f32⟩
  | 108 => ⟨S524288x4, .f32⟩
  | 109 => ⟨S16x4, .f32⟩
  | 110 => ⟨S_, .f32⟩
  | 111 => ⟨S16x4, .f32⟩
  | 112 => ⟨S16x4, .f32⟩
  | 113 => ⟨S_, .f32⟩
  | 114 => ⟨S16, .f32⟩
  | 115 => ⟨S_, .f32⟩
  | 116 => ⟨S16, .f32⟩
  | 117 => ⟨S16, .f32⟩
  | 118 => ⟨S_, .f32⟩
  | 119 => ⟨S4, .f32⟩
  | 120 => ⟨S_, .f32⟩
  | 121 => ⟨S4, .f32⟩
  | 122 => ⟨S4, .f32⟩
  | 123 => ⟨S_, .f32⟩
  | 124 => ⟨S_, .f32⟩
  | 125 => ⟨S16x4, .f32⟩
  | 126 => ⟨S16x4, .f32⟩
  | 127 => ⟨S_, .f32⟩
  | _ => ⟨S8x3x512x1024, .f32⟩

abbrev hbmTy0_1 (i : Nat) : BufTy := match i % 128 with
  | 0 => ⟨S_, .f32⟩
  | 1 => ⟨S16, .f32⟩
  | 2 => ⟨S16, .f32⟩
  | 3 => ⟨S_, .f32⟩
  | 4 => ⟨S_, .f32⟩
  | 5 => ⟨S4, .f32⟩
  | 6 => ⟨S4, .f32⟩
  | 7 => ⟨S16x1, .f32⟩
  | 8 => ⟨S1x4, .f32⟩
  | 9 => ⟨S16x4, .f32⟩
  | 10 => ⟨S16x4, .f32⟩
  | 11 => ⟨S16x4, .f32⟩
  | 12 => ⟨S_, .f32⟩
  | 13 => ⟨S16x4, .f32⟩
  | 14 => ⟨S16x4, .f32⟩
  | 15 => ⟨S16x4, .f32⟩
  | 16 => ⟨S_, .f32⟩
  | 17 => ⟨S16x4, .f32⟩
  | 18 => ⟨S16x4, .f32⟩
  | 19 => ⟨S16x4, .f32⟩
  | 20 => ⟨S16x4, .f32⟩
  | 21 => ⟨S16x4, .f32⟩
  | 22 => ⟨S_, .f32⟩
  | 23 => ⟨S_, .f32⟩
  | 24 => ⟨S16x4, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S1x1, .f32⟩
  | _ => ⟨S8x3x512x1024, .f32⟩

abbrev hbmTy (i : Nat) : BufTy := match i / 128 with
  | 0 => hbmTy0_0 i
  | 1 => hbmTy0_1 i
  | _ => ⟨S8x3x512x1024, .f32⟩

abbrev bufTy : (tb : Table) → Fin (tcTables nBuf tb) → BufTy
  | .hbm, ⟨i, _⟩ => hbmTy i
  | _, _ => ⟨S8x3x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_cst_10 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_v41 : Ref sig .tc := ⟨.hbm, 56, rfl⟩
abbrev main_cst_12 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_13 : Ref sig .tc := ⟨.hbm, 62, rfl⟩
abbrev main_v46 : Ref sig .tc := ⟨.hbm, 63, rfl⟩
abbrev main_v47 : Ref sig .tc := ⟨.hbm, 64, rfl⟩
abbrev main_cst_14 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_15 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_16 : Ref sig .tc := ⟨.hbm, 77, rfl⟩
abbrev main_v58 : Ref sig .tc := ⟨.hbm, 78, rfl⟩
abbrev main_v59 : Ref sig .tc := ⟨.hbm, 79, rfl⟩
abbrev main_cst_17 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_18 : Ref sig .tc := ⟨.hbm, 85, rfl⟩
abbrev main_v64 : Ref sig .tc := ⟨.hbm, 86, rfl⟩
abbrev main_v65 : Ref sig .tc := ⟨.hbm, 87, rfl⟩
abbrev main_cst_19 : Ref sig .tc := ⟨.hbm, 88, rfl⟩
abbrev main_v66 : Ref sig .tc := ⟨.hbm, 89, rfl⟩
abbrev main_v67 : Ref sig .tc := ⟨.hbm, 90, rfl⟩
abbrev main_cst_20 : Ref sig .tc := ⟨.hbm, 91, rfl⟩
abbrev main_v68 : Ref sig .tc := ⟨.hbm, 92, rfl⟩
abbrev main_v69 : Ref sig .tc := ⟨.hbm, 93, rfl⟩
abbrev main_cst_21 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_22 : Ref sig .tc := ⟨.hbm, 99, rfl⟩
abbrev main_v74 : Ref sig .tc := ⟨.hbm, 100, rfl⟩
abbrev main_v75 : Ref sig .tc := ⟨.hbm, 101, rfl⟩
abbrev main_cst_23 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_24 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_25 : Ref sig .tc := ⟨.hbm, 110, rfl⟩
abbrev main_v82 : Ref sig .tc := ⟨.hbm, 111, rfl⟩
abbrev main_v83 : Ref sig .tc := ⟨.hbm, 112, rfl⟩
abbrev main_cst_26 : Ref sig .tc := ⟨.hbm, 113, rfl⟩
abbrev main_v84 : Ref sig .tc := ⟨.hbm, 114, rfl⟩
abbrev main_cst_27 : Ref sig .tc := ⟨.hbm, 115, rfl⟩
abbrev main_v85 : Ref sig .tc := ⟨.hbm, 116, rfl⟩
abbrev main_v86 : Ref sig .tc := ⟨.hbm, 117, rfl⟩
abbrev main_cst_28 : Ref sig .tc := ⟨.hbm, 118, rfl⟩
abbrev main_v87 : Ref sig .tc := ⟨.hbm, 119, rfl⟩
abbrev main_cst_29 : Ref sig .tc := ⟨.hbm, 120, rfl⟩
abbrev main_v88 : Ref sig .tc := ⟨.hbm, 121, rfl⟩
abbrev main_v89 : Ref sig .tc := ⟨.hbm, 122, rfl⟩
abbrev main_cst_30 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_31 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_32 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_33 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_34 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_35 : Ref sig .tc := ⟨.hbm, 150, rfl⟩
abbrev main_v112 : Ref sig .tc := ⟨.hbm, 151, rfl⟩
abbrev main_v113 : Ref sig .tc := ⟨.hbm, 152, rfl⟩
abbrev main_cst_36 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_37 : Ref sig .tc := ⟨.hbm, 157, rfl⟩
abbrev main_v117 : Ref sig .tc := ⟨.hbm, 158, rfl⟩
abbrev main_cst_38 : Ref sig .tc := ⟨.hbm, 159, rfl⟩
abbrev main_v118 : Ref sig .tc := ⟨.hbm, 160, rfl⟩
abbrev main_cst_39 : Ref sig .tc := ⟨.hbm, 161, rfl⟩
abbrev main_v119 : Ref sig .tc := ⟨.hbm, 162, rfl⟩
abbrev main_v120 : Ref sig .tc := ⟨.hbm, 163, rfl⟩

abbrev nD : Nat := 1
abbrev τ : Topo := Topo.v7x

variable {F : FTy → Type} [FloatOps F]
-- ==== Proof.Pixel.lean ====
/- The mathematics of one pixel, over the extended reals.

   The camera value of a pixel enters through the sum `s` of its three channels, the label through its four scores.
   Each falls into bins by the difference of two logistic steps, one at each edge of the bin. A logistic step is a
   hyperbolic tangent at half the argument, so a bin weight is half the difference of two tangents, and a tangent is a real
   number at every extended real. -/
module

public import Idealize.ShloMosaic.PureOps.Ideal
public import Idealize.ShloMosaic.PureOps.Ideal.Laws

@[expose] public section

noncomputable section

namespace Cert.Nid

open Idealize.ShloMosaic

/-! ### A tangent is a real number -/

/-- The hyperbolic tangent of an extended real, as a real number (`±1` at the infinities). -/
def th (x : EReal) : ℝ := (Ideal.tanh x).toReal

/-- The tangent of an extended real is never infinite. -/
theorem tanh_eq (x : EReal) : Ideal.tanh x = ((th x : ℝ) : EReal) := by
  unfold th
  induction x using EReal.rec with
  | bot => simp
  | top => simp
  | coe r => simp

/-- The logistic function at twice `x` is half of one plus the tangent of `x`, at the infinities too. -/
theorem logistic_two (x : EReal) :
    Ideal.div 1 (1 + Ideal.exp (-(((2 : ℝ) : EReal) * x))) = (((th x + 1) / 2 : ℝ) : EReal) := by
  change Ideal.logistic (((2 : ℝ) : EReal) * x) = _
  unfold th
  induction x using EReal.rec with
  | bot => rw [EReal.coe_mul_bot_of_pos (by norm_num)]; simp
  | top => rw [EReal.coe_mul_top_of_pos (by norm_num)]; simp
  | coe r =>
    rw [← EReal.coe_mul, Ideal.logistic_coe, Ideal.tanh_coe, EReal.toReal_coe, EReal.coe_eq_coe_iff]
    have h1 := Real.exp_pos r
    have h2 := Real.exp_pos (-r)
    have e : Real.exp (-(2 * r)) = Real.exp (-r) * Real.exp (-r) := by rw [← Real.exp_add]; ring_nf
    have e' : Real.exp r * Real.exp (-r) = 1 := by rw [← Real.exp_add]; simp
    rw [Real.tanh_eq_sinh_div_cosh, Real.sinh_eq, Real.cosh_eq, e]
    field_simp
    linear_combination (-2 * Real.exp (-r)) * e'

/-! ### Camera bins -/

/-- The scaled position of edge `k` of the sixteen camera bins. -/
def camEdge (k : ℕ) : ℝ := k * (25 / 4)

/-- The tangent at camera edge `k` for channel sum `s`. -/
def camT (s : EReal) (k : ℕ) : ℝ := th (s * ((100 / 3 : ℝ) : EReal) - (camEdge k : EReal))

/-- The weight of camera bin `k`, summed over the batch, from the channel sums of the eight images at one pixel. -/
def camW (s : Fin 8 → EReal) (k : ℕ) : ℝ := 1 / 2 * (∑ b, camT (s b) k - ∑ b, camT (s b) (k + 1))

/-- Mean intensity, less the centre of bin `k`, plus half a bin, over the bandwidth: the lower edge of the bin, scaled. -/
theorem cam_lower (s : EReal) (k : ℕ) :
    (s * ((1 / 3 : ℝ) : EReal) - ((1 / 16 * (k + 1 / 2) : ℝ) : EReal) + ((1 / 32 : ℝ) : EReal)) * ((200 : ℝ) : EReal)
      = ((2 : ℝ) : EReal) * (s * ((100 / 3 : ℝ) : EReal) - (camEdge k : EReal)) := by
  induction s using EReal.rec with
  | bot =>
    rw [EReal.bot_mul_coe_of_pos (by norm_num), EReal.bot_mul_coe_of_pos (by norm_num), EReal.bot_sub, EReal.bot_sub,
      EReal.bot_add, EReal.bot_mul_coe_of_pos (by norm_num), EReal.coe_mul_bot_of_pos (by norm_num)]
  | top =>
    rw [EReal.top_mul_coe_of_pos (by norm_num), EReal.top_mul_coe_of_pos (by norm_num), EReal.top_sub_coe,
      EReal.top_sub_coe, EReal.top_add_coe, EReal.top_mul_coe_of_pos (by norm_num),
      EReal.coe_mul_top_of_pos (by norm_num)]
  | coe r =>
    norm_cast
    unfold camEdge
    ring

/-- The same with minus half a bin: the upper edge of bin `k`, which is edge `k + 1`. -/
theorem cam_upper (s : EReal) (k : ℕ) :
    (s * ((1 / 3 : ℝ) : EReal) - ((1 / 16 * (k + 1 / 2) : ℝ) : EReal) - ((1 / 32 : ℝ) : EReal)) * ((200 : ℝ) : EReal)
      = ((2 : ℝ) : EReal) * (s * ((100 / 3 : ℝ) : EReal) - (camEdge (k + 1) : EReal)) := by
  induction s using EReal.rec with
  | bot =>
    rw [EReal.bot_mul_coe_of_pos (by norm_num), EReal.bot_mul_coe_of_pos (by norm_num), EReal.bot_sub, EReal.bot_sub,
      EReal.bot_sub, EReal.bot_mul_coe_of_pos (by norm_num), EReal.coe_mul_bot_of_pos (by norm_num)]
  | top =>
    rw [EReal.top_mul_coe_of_pos (by norm_num), EReal.top_mul_coe_of_pos (by norm_num), EReal.top_sub_coe,
      EReal.top_sub_coe, EReal.top_sub_coe, EReal.top_mul_coe_of_pos (by norm_num),
      EReal.coe_mul_top_of_pos (by norm_num)]
  | coe r =>
    norm_cast
    unfold camEdge
    push_cast
    ring

/-! ### The label's soft arg-max -/

/-- The largest of four scores. -/
def top4 (l : Fin 4 → EReal) : EReal := Finset.univ.fold max ⊥ l

/-- The exponential weight of score `i` against the largest score, as a real number. -/
def wt (l : Fin 4 → EReal) (i : Fin 4) : ℝ := (Ideal.exp ((l i - top4 l) * ((500 : ℝ) : EReal))).toReal

theorem le_top4 (l : Fin 4 → EReal) (i : Fin 4) : l i ≤ top4 l := by
  unfold top4
  rw [Finset.le_fold_max]
  exact Or.inr ⟨i, Finset.mem_univ _, le_rfl⟩

/-- A score less the largest score is not plus infinity: the difference of two equal infinities is minus infinity. -/
theorem sub_top4_ne_top (l : Fin 4 → EReal) (i : Fin 4) : l i - top4 l ≠ ⊤ := by
  have h := le_top4 l i
  generalize l i = a at h
  generalize top4 l = b at h
  induction b using EReal.rec with
  | bot => rw [le_bot_iff.mp h]; simp
  | top => simp
  | coe r =>
    induction a using EReal.rec with
    | bot => simp
    | top => simp at h
    | coe q => rw [← EReal.coe_sub]; exact EReal.coe_ne_top _

/-- The exponential weight is that real number, whatever the scores. -/
theorem exp_eq_wt (l : Fin 4 → EReal) (i : Fin 4) :
    Ideal.exp ((l i - top4 l) * ((500 : ℝ) : EReal)) = (wt l i : EReal) := by
  unfold wt
  have h := sub_top4_ne_top l i
  generalize l i - top4 l = a at h
  induction a using EReal.rec with
  | bot => rw [EReal.bot_mul_coe_of_pos (by norm_num)]; simp
  | top => exact absurd rfl h
  | coe r => rw [← EReal.coe_mul, Ideal.exp_coe, EReal.toReal_coe]

theorem wt_nonneg (l : Fin 4 → EReal) (i : Fin 4) : 0 ≤ wt l i := by
  unfold wt
  generalize (l i - top4 l) * ((500 : ℝ) : EReal) = a
  induction a using EReal.rec with
  | bot => simp
  | top => simp
  | coe r => simp [Real.exp_nonneg]

/-- The sum of the four weights plus the small constant `ε`. -/
def wtSum (ε : ℝ) (l : Fin 4 → EReal) : ℝ := wt l 0 + wt l 1 + (wt l 2 + wt l 3) + ε

theorem wtSum_pos {ε : ℝ} (hε : 0 < ε) (l : Fin 4 → EReal) : 0 < wtSum ε l := by
  have h0 := wt_nonneg l 0
  have h1 := wt_nonneg l 1
  have h2 := wt_nonneg l 2
  have h3 := wt_nonneg l 3
  unfold wtSum
  linarith

/-- The soft arg-max: the mean of the class numbers 0, 1, 2, 3 under the weights. -/
def argm (ε : ℝ) (l : Fin 4 → EReal) : ℝ := (wt l 1 + 2 * wt l 2 + 3 * wt l 3) / wtSum ε l

/-- The soft arg-max as one quotient. -/
theorem argm_quot {ε : ℝ} (hε : 0 < ε) (l : Fin 4 → EReal) :
    Ideal.div ((wt l 1 : EReal) + ((2 : ℝ) : EReal) * (wt l 2 : EReal) + ((3 : ℝ) : EReal) * (wt l 3 : EReal))
        ((wt l 0 : EReal) + (wt l 1 : EReal) + ((wt l 2 : EReal) + (wt l 3 : EReal)) + (ε : EReal))
      = (argm ε l : EReal) := by
  have e : (wt l 0 : EReal) + (wt l 1 : EReal) + ((wt l 2 : EReal) + (wt l 3 : EReal)) + (ε : EReal)
      = ((wtSum ε l : ℝ) : EReal) := by unfold wtSum; norm_cast
  rw [e, Ideal.div_coe (wtSum_pos hε l).ne']
  norm_cast
  unfold argm
  ring

/-- The soft arg-max as a sum of quotients, each times its class number. -/
theorem argm_sum {ε : ℝ} (hε : 0 < ε) (l : Fin 4 → EReal) :
    ∑ i : Fin 4, Ideal.div (wt l i : EReal) ((∑ j : Fin 4, (wt l j : EReal)) + (ε : EReal)) * (((i : ℕ) : ℝ) : EReal)
      = (argm ε l : EReal) := by
  have e : (∑ j : Fin 4, (wt l j : EReal)) + (ε : EReal) = ((wtSum ε l : ℝ) : EReal) := by
    unfold wtSum
    rw [Fin.sum_univ_four]
    norm_cast
    ring
  rw [e]
  simp only [Ideal.div_coe (wtSum_pos hε l).ne', Fin.sum_univ_four]
  rw [show ((0 : Fin 4) : ℕ) = 0 from rfl, show ((1 : Fin 4) : ℕ) = 1 from rfl, show ((2 : Fin 4) : ℕ) = 2 from rfl,
    show ((3 : Fin 4) : ℕ) = 3 from rfl]
  norm_cast
  unfold argm
  push_cast
  ring

/-! ### Label bins -/

/-- The scaled position of edge `k` of the four label bins. -/
def labEdge (k : ℕ) : ℝ := (k - 1 / 2) * 500

/-- The tangent at label edge `k` for a soft arg-max `a`. -/
def labT (a : ℝ) (k : ℕ) : ℝ := th ((a * 500 - labEdge k : ℝ) : EReal)

/-- The weight of label bin `k`, summed over the batch, from the eight soft arg-maxes at one pixel. -/
def labW (a : Fin 8 → ℝ) (k : ℕ) : ℝ := 1 / 2 * (∑ b, labT (a b) k - ∑ b, labT (a b) (k + 1))

/-- Soft arg-max less class number `k` plus a half, over the bandwidth: the lower edge of the bin, scaled. -/
theorem lab_lower (a : ℝ) (k : ℕ) :
    (((a : EReal) - (((k : ℕ) : ℝ) : EReal)) + ((1 / 2 : ℝ) : EReal)) * ((1000 : ℝ) : EReal)
      = ((2 : ℝ) : EReal) * ((a * 500 - labEdge k : ℝ) : EReal) := by
  norm_cast
  unfold labEdge
  ring

/-- The same with minus a half: the upper edge of bin `k`, which is edge `k + 1`. -/
theorem lab_upper (a : ℝ) (k : ℕ) :
    (((a : EReal) - (((k : ℕ) : ℝ) : EReal)) - ((1 / 2 : ℝ) : EReal)) * ((1000 : ℝ) : EReal)
      = ((2 : ℝ) : EReal) * ((a * 500 - labEdge (k + 1) : ℝ) : EReal) := by
  norm_cast
  unfold labEdge
  push_cast
  ring

/-! ### The rows the histogram multiplies -/

/-- Row `k` of the camera side: bin `k` for `k < 16`, and a row of ones below. -/
def camRow (s : Fin 8 → EReal) (k : ℕ) : ℝ := if k < 16 then camW s k else 1

/-- Row `k` of the label side: bin `k` for `k < 4`, and a row of ones below. -/
def labRow (a : Fin 8 → ℝ) (k : ℕ) : ℝ := if k < 4 then labW a k else 1

/-- A finite sum of real numbers, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

end Cert.Nid

end
-- ==== Proof.Consts.lean ====
/- The literal constants of the two programs, as extended reals. -/
module

public import Idealize.ShloMosaic.PureOps.Ideal
public import Idealize.ShloMosaic.PureOps.Ideal.Laws

@[expose] public section

noncomputable section

namespace Cert.Nid

open Idealize.ShloMosaic

/-- The small constant added to a sum of weights, exactly. -/
def epsSm : ℝ := 9223372 / 2 ^ 63

theorem epsSm_pos : 0 < epsSm := by unfold epsSm; norm_num

theorem lit_eps : Ideal.ofBits .f32 0x2B8CBCCC#32 = (epsSm : EReal) := by
  unfold epsSm
  simp [Ideal.ofBits, Ideal.ieee, -EReal.coe_mul]
  norm_num

theorem lit_500 : Ideal.ofBits .f32 0x43FA0000#32 = ((500 : ℝ) : EReal) := by
  simp [Ideal.ofBits, Ideal.ieee, -EReal.coe_mul]
  norm_num

theorem lit_2 : Ideal.ofBits .f32 0x40000000#32 = ((2 : ℝ) : EReal) := by
  simp [Ideal.ofBits, Ideal.ieee, -EReal.coe_mul]
  norm_num

theorem lit_3 : Ideal.ofBits .f32 0x40400000#32 = ((3 : ℝ) : EReal) := by
  simp [Ideal.ofBits, Ideal.ieee, -EReal.coe_mul]
  norm_num

theorem lit_half : Ideal.ofBits .f32 0x3F000000#32 = ((1 / 2 : ℝ) : EReal) := by
  simp [Ideal.ofBits, Ideal.ieee, -EReal.coe_mul]
  norm_num

theorem lit_half_bf16 : Ideal.ofBits .bf16 0x3F00#16 = ((1 / 2 : ℝ) : EReal) := by
  simp [Ideal.ofBits, Ideal.ieee, -EReal.coe_mul]
  norm_num

theorem lit_bin : Ideal.ofBits .f32 0x40C80000#32 = ((25 / 4 : ℝ) : EReal) := by
  simp [Ideal.ofBits, Ideal.ieee, -EReal.coe_mul]
  norm_num

theorem lit_200 : Ideal.ofBits .f32 0x43480000#32 = ((200 : ℝ) : EReal) := by
  simp [Ideal.ofBits, Ideal.ieee, -EReal.coe_mul]
  norm_num

theorem lit_1000 : Ideal.ofBits .f32 0x447A0000#32 = ((1000 : ℝ) : EReal) := by
  simp [Ideal.ofBits, Ideal.ieee, -EReal.coe_mul]
  norm_num

theorem lit_16th : Ideal.ofBits .f32 0x3D800000#32 = ((1 / 16 : ℝ) : EReal) := by
  simp [Ideal.ofBits, Ideal.ieee, -EReal.coe_mul]
  norm_num

theorem lit_32nd : Ideal.ofBits .f32 0x3D000000#32 = ((1 / 32 : ℝ) : EReal) := by
  simp [Ideal.ofBits, Ideal.ieee, -EReal.coe_mul]
  norm_num

theorem lit_bot : Ideal.ofBits .f32 0xFF800000#32 = (⊥ : EReal) := by
  simp [Ideal.ofBits, Ideal.ieee]

/-- A small natural number converted from a word. -/
theorem ofNat_real (k : ℕ) (h : k < 17) :
    FloatOps.sitofp (F := Ideal) .f32 (BitVec.ofNat 32 k) = (((k : ℕ) : ℝ) : EReal) := by
  change (((BitVec.ofNat 32 k).toInt : ℝ) : EReal) = _
  rw [BitVec.toInt_ofNat', Int.bmod_eq_of_le (by omega) (by omega)]
  simp

end Cert.Nid

end
-- ==== Proof.Block.lean ====
/- What one grid point adds to the histogram.

   A grid point reads a strip of 32 image rows of the eight cameras and labels. It forms the camera rows and the label rows of
   each pixel of the strip and adds, to entry `(32 k + h, 32 c + g)` of a 544 by 160 array, the sum over the 1024 columns of
   camera row `k` at image row `h` times label row `c` at image row `g`. -/
module

public import proofs.«01_k».proof.Proof.Gen.KernelIdeal.Skeleton
public import proofs.«01_k».proof.Proof.Pixel
public import proofs.«01_k».proof.Proof.Consts
public import Idealize.ShloMosaic.Lib.Pointwise

@[expose] public section

set_option maxRecDepth 16384

noncomputable section

namespace Cert.KernelIdeal.NidValue

open Cert.KernelIdeal Cert.KernelIdeal.Gen Cert.Nid Idealize.ShloMosaic

/-- The named constant of the program is one hundred thirds. -/
theorem lit_third : (Named.named κ "third" 0x42055555#32 : Ideal .f32) = ((100 / 3 : ℝ) : EReal) :=
  IdealRules.named_const.ideal_named_scalar _ _ _ _ rfl

/-! ### The edges -/

theorem camEdge_apply (k : Fin 17) : k0_pay10 (F := Ideal) (ix3 k 0 0) = (camEdge k : EReal) := by
  pointwise [k0_pay10]
  rw [ofNat_real _ (by omega), lit_bin]
  unfold camEdge
  norm_cast

theorem labEdge_apply (k : Fin 5) : k0_pay16 (F := Ideal) (ix3 k 0 0) = (labEdge k : EReal) := by
  pointwise [k0_pay16]
  rw [ofNat_real _ (by omega), lit_half, lit_500]
  unfold labEdge
  norm_cast

/-! ### The camera rows of a strip -/

/-- The channel sums of the eight images at a pixel of the strip. -/
def camS (v0 : Vec Ideal S8x3x32x1024 .f32) (h : Fin 32) (w : Fin 1024) (b : Fin 8) : EReal :=
  v0 (ix4 b 0 h w) + v0 (ix4 b 1 h w) + v0 (ix4 b 2 h w)

/-- The camera bin weights the body computes from a strip. -/
def camBlk (v0 : Vec Ideal S8x3x32x1024 .f32) : FVec Ideal S16x32x1024 .bf16 :=
  k0_pay15 v0 k0_pay10
    (k0_pay13 v0 k0_pay10 (k0_pay11 v0) (k0_pay12 v0) (Named.named κ "third" 0x42055555#32)) (k0_pay14 v0 k0_pay10)

theorem camT_eq (v0 : FVec Ideal S8x3x32x1024 .f32) (b : Fin 8) (h : Fin 32) (w : Fin 1024) (k : ℕ) :
    Ideal.tanh ((v0 (ix4 b 0 h w) + v0 (ix4 b 1 h w) + v0 (ix4 b 2 h w)) * ((100 / 3 : ℝ) : EReal) - (camEdge k : EReal))
      = (camT (camS v0 h w b) k : EReal) := tanh_eq _

/-- Bin `k` of the camera rows at a pixel is the bin weight of the pixel's channel sums. -/
theorem camBlk_apply (v0 : Vec Ideal S8x3x32x1024 .f32) (k : Fin 16) (h : Fin 32) (w : Fin 1024) :
    camBlk v0 (ix3 k h w) = (camW (camS v0 h w) k : EReal) := by
  pointwise [camBlk, k0_pay11, k0_pay12, k0_pay13, k0_pay14, k0_pay15]
  simp only [lit_third, camEdge_apply, camT_eq, lit_half_bf16]
  rw [camW, mul_comm]
  simp only [Fin.sum_univ_eight, Nat.add_comm 1 k.val]
  norm_cast

/-! ### The label rows of a strip -/

/-- The four scores of image `b` at a pixel of the strip. -/
def labL (v1 : Vec Ideal S8x4x32x1024 .f32) (h : Fin 32) (w : Fin 1024) (b : Fin 8) (c : Fin 4) : EReal := v1 (ix4 b c h w)

/-- The soft arg-max of the eight labels at a pixel of the strip. -/
def labA (v1 : Vec Ideal S8x4x32x1024 .f32) (h : Fin 32) (w : Fin 1024) (b : Fin 8) : ℝ := argm epsSm (labL v1 h w b)

/-- The tangents of the first seven images, summed, as the body computes them. -/
def labSum (v1 : Vec Ideal S8x4x32x1024 .f32) : FVec Ideal S5x32x1024 .f32 :=
  k0_pay33 k0_pay16
    (k0_pay29 k0_pay16
      (k0_pay27 v1 k0_pay16
        (k0_pay25 k0_pay16 (k0_pay21 k0_pay16 (k0_pay18 k0_pay16 (k0_pay17 v1)) (k0_pay19 v1) (k0_pay20 v1))
          (k0_pay22 v1) (k0_pay23 v1) (k0_pay24 v1))
        (k0_pay26 v1))
      (k0_pay28 v1))
    (k0_pay30 v1) (k0_pay31 v1) (k0_pay32 v1)

theorem wt_eq (v1 : FVec Ideal S8x4x32x1024 .f32) (b : Fin 8) (h : Fin 32) (w : Fin 1024) (c : Fin 4) :
    Ideal.exp ((v1 (ix4 b c h w) - Finset.fold max (⊥ : EReal) (fun x => v1 (ix4 b x h w)) Finset.univ) * ((500 : ℝ) : EReal))
      = (wt (labL v1 h w b) c : EReal) := exp_eq_wt (labL v1 h w b) c

theorem labT_eq (a : ℝ) (k : ℕ) :
    Ideal.tanh ((a : EReal) * ((500 : ℝ) : EReal) - (labEdge k : EReal)) = (labT a k : EReal) := by
  rw [tanh_eq, ← EReal.coe_mul, ← EReal.coe_sub]
  rfl

theorem labSum_apply (v1 : Vec Ideal S8x4x32x1024 .f32) (k : Fin 5) (h : Fin 32) (w : Fin 1024) :
    labSum v1 (ix3 k h w) = ((∑ b : Fin 7, labT (labA v1 h w b.castSucc) k : ℝ) : EReal) := by
  pointwise [labSum, k0_pay17, k0_pay18, k0_pay19, k0_pay20, k0_pay21, k0_pay22, k0_pay23, k0_pay24, k0_pay25, k0_pay26,
    k0_pay27, k0_pay28, k0_pay29, k0_pay30, k0_pay31, k0_pay32, k0_pay33]
  simp only [lit_bot, lit_500, lit_2, lit_3, lit_eps, wt_eq, argm_quot epsSm_pos, labEdge_apply, labT_eq]
  simp only [Fin.sum_univ_seven]
  norm_cast

/-! ### The strip's addition to the array -/

/-- The array after a grid point, from the strip it reads and the array before. -/
def step (v0 : Vec Ideal S8x3x32x1024 .f32) (v1 : Vec Ideal S8x4x32x1024 .f32) (acc : Vec Ideal S544x160 .f32) :
    FVec Ideal S544x160 .f32 :=
  k0_pay37 (camBlk v0) k0_pay16 (labSum v1) (k0_pay34 v1) (k0_pay35 v1) acc

/-- A label bin weight, with the tangent of the last image taken apart. -/
theorem labW_last (a : Fin 8 → ℝ) (k : ℕ) :
    ((1 / 2 : ℝ) : EReal) * ((((∑ b : Fin 7, labT (a b.castSucc) k : ℝ) : EReal) + (labT (a 7) k : EReal))
        - (((∑ b : Fin 7, labT (a b.castSucc) (1 + k) : ℝ) : EReal) + (labT (a 7) (1 + k) : EReal)))
      = (labW a k : EReal) := by
  rw [← EReal.coe_add, ← EReal.coe_add, ← EReal.coe_sub, ← EReal.coe_mul]
  unfold labW
  simp only [Fin.sum_univ_eight, Fin.sum_univ_seven, Nat.add_comm 1 k]
  rfl

/-- What a grid point adds to entry `(i, j)`. -/
theorem step_apply (v0 : Vec Ideal S8x3x32x1024 .f32) (v1 : Vec Ideal S8x4x32x1024 .f32) (acc : Vec Ideal S544x160 .f32)
    (i : Fin 544) (j : Fin 160) :
    step v0 v1 acc (ix2 i j) = acc (ix2 i j)
      + ((∑ w : Fin 1024, camRow (camS v0 ⟨i.val % 32, Nat.mod_lt _ (by norm_num)⟩ w) (i.val / 32)
          * labRow (labA v1 ⟨j.val % 32, Nat.mod_lt _ (by norm_num)⟩ w) (j.val / 32) : ℝ) : EReal) := by
  pointwise [step, k0_pay34, k0_pay35, k0_pay37]
  simp only [lit_bot, lit_500, lit_2, lit_3, lit_eps, lit_half, wt_eq, argm_quot epsSm_pos, labEdge_apply, labT_eq, camBlk_apply,
    labSum_apply]
  refine Eq.trans ?_ (congrArg (acc (ix2 i j) + ·) (coe_sum _ _).symm)
  refine congrArg (acc (ix2 i j) + ·) (Finset.sum_congr rfl fun w _ => ?_)
  refine Eq.trans (congrArg₂ (· * ·) ?_ ?_) (EReal.coe_mul _ _).symm
  · unfold camRow
    split_ifs <;> rfl
  · unfold labRow
    split_ifs
    · exact labW_last _ _
    · rfl

end Cert.KernelIdeal.NidValue

end
-- ==== Proof.Tail.lean ====
/- The scalar both programs compute from the histogram sums.

   From the joint sums of each camera bin and label bin, the camera sums and the label sums, the loss is formed the same way on
   both sides: divide by the number of samples, normalise each to total one, take mutualInfo information over joint entropy. -/
module

public import Idealize.ShloMosaic.PureOps.Ideal

@[expose] public section

noncomputable section

namespace Cert.Nid

open Idealize.ShloMosaic

/-- The number of samples, `8 · 512 · 1024`. -/
def count : EReal := Ideal.ofBits .f32 0x4A800000#32

/-- The small constant under the logarithms. -/
def epsLog : EReal := Ideal.ofBits .f32 0x33D6BF95#32

/-- The joint probability of camera bin `i` and label bin `j`, from the joint sums `a`. -/
def joint (a : Fin 16 → Fin 4 → EReal) (i : Fin 16) (j : Fin 4) : EReal :=
  Ideal.div (Ideal.div (a i j) count) (∑ x, ∑ y, Ideal.div (a x y) count)

/-- The probability of bin `i`, from the sums `b` of each bin. -/
def margin {n : ℕ} (b : Fin n → EReal) (i : Fin n) : EReal := Ideal.div (Ideal.div (b i) count) (∑ x, Ideal.div (b x) count)

/-- Mutual information: the joint probability times the difference of the logarithms, summed. -/
def mutualInfo (a : Fin 16 → Fin 4 → EReal) (b : Fin 16 → EReal) (d : Fin 4 → EReal) : EReal :=
  ∑ i, ∑ j, joint a i j * (Ideal.log (joint a i j + epsLog) - Ideal.log (margin b i * margin d j + epsLog))

/-- Joint entropy, negated. -/
def negEntropy (a : Fin 16 → Fin 4 → EReal) : EReal := ∑ i, ∑ j, joint a i j * Ideal.log (joint a i j + epsLog)

/-- The loss: one minus mutualInfo information over joint entropy, less 0.95, times 20. -/
def loss (a : Fin 16 → Fin 4 → EReal) (b : Fin 16 → EReal) (d : Fin 4 → EReal) : EReal :=
  (1 - Ideal.div (mutualInfo a b d) (-negEntropy a) - Ideal.ofBits .f32 0x3F733333#32) * Ideal.ofBits .f32 0x41A00000#32

end Cert.Nid

end
-- ==== Proof.Final.lean ====
/- What the last grid point computes from the 544 by 160 array.

   It keeps the entries whose row and column agree modulo 32, sums each 32 by 32 block by two products with indicator
   matrices, and forms the loss from the 17 by 5 matrix of sums. -/
module

public import proofs.«01_k».proof.Proof.Gen.KernelIdeal.Skeleton
public import proofs.«01_k».proof.Proof.Tail
public import Idealize.ShloMosaic.Lib.Pointwise
public import Idealize.ShloMosaic.Lib.WordCmp

@[expose] public section

set_option maxRecDepth 16384

noncomputable section

namespace Cert.KernelIdeal.NidValue

open Cert.KernelIdeal Cert.KernelIdeal.Gen Cert.Nid Idealize.ShloMosaic

/-! ### The integer tests -/

/-- The remainder of a small index by 32, as words. -/
theorem rem_word : ∀ i : Fin 544, IntOp.remsi ArithUnit.vector (BitVec.ofNat 32 i) 32#32 = BitVec.ofNat 32 (i % 32) := by
  decide +kernel

/-- The floor quotient of a small index by 32, as the body computes it from the truncating quotient. -/
theorem quot_word : ∀ i : Fin 544,
    Scalar.select
        (IntOp.andi
          (IntOp.cmpi CmpIPredicate.ne
            (IntOp.subi (BitVec.setWidth 32 (IntOp.cmpi CmpIPredicate.sgt (BitVec.ofNat 32 i) 0#32))
              (BitVec.setWidth 32 (IntOp.cmpi CmpIPredicate.slt (BitVec.ofNat 32 i) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 i) 32#32) 0#32))
        (IntOp.subi (IntOp.divsi ArithUnit.vector (BitVec.ofNat 32 i) 32#32) 1#32)
        (IntOp.divsi ArithUnit.vector (BitVec.ofNat 32 i) 32#32)
      = BitVec.ofNat 32 (i / 32) := by
  decide +kernel

/-- Selecting on the equality of two small indices. -/
theorem select_eq_word {α : Type} (a b : ℕ) (ha : a < 2 ^ 32) (hb : b < 2 ^ 32) (x y : α) :
    Scalar.select (IntOp.cmpi CmpIPredicate.eq (BitVec.ofNat 32 a) (BitVec.ofNat 32 b)) x y = if a = b then x else y := by
  rw [WordCmp.cmpi_eq_ofNat ha hb, WordCmp.select_decide]

/-! ### The three matrices -/

theorem mask_apply (acc : Vec Ideal S544x160 .f32) (i : Fin 544) (j : Fin 160) :
    k0_pay2 acc (ix2 i j) = if i.val % 32 = j.val % 32 then acc (ix2 i j) else 0 := by
  pointwise [k0_pay2]
  rw [rem_word i, rem_word ⟨j, by omega⟩, select_eq_word _ _ (by omega) (by omega)]

theorem rows_apply (k : Fin 17) (i : Fin 544) :
    k0_pay3 (F := Ideal) (ix2 k i) = if i.val / 32 = k.val then (1 : EReal) else 0 := by
  pointwise [k0_pay3]
  rw [quot_word i, select_eq_word _ _ (by omega) (by omega)]

/-- The 17 by 5 matrix of histogram sums the last point forms from the array. -/
def hist (acc : Vec Ideal S544x160 .f32) : FVec Ideal S17x5 .f32 :=
  k0_pay5 (k0_pay2 acc) k0_pay3 (iota Kind.tc S160x5 32 [0] iota_S160x5_d0_w32)
    (iota Kind.tc S160x5 32 [1] iota_S160x5_d1_w32) 32#32 k0_pay4 0#32

/-- Entry `(k, c)` of the matrix is the trace of the block `(k, c)` of the array. -/
theorem hist_apply (acc : Vec Ideal S544x160 .f32) (k : Fin 17) (c : Fin 5) :
    hist acc (ix2 k c) = ∑ h : Fin 32, acc (ix2 ⟨k.val * 32 + h.val, by omega⟩ ⟨c.val * 32 + h.val, by omega⟩) := by
  have h1 : hist acc (ix2 k c)
      = ∑ x : Fin 160, if x.val / 32 = c.val then ∑ y : Fin 544, k0_pay3 (F := Ideal) (ix2 k y) * k0_pay2 acc (ix2 y x) else 0 := by
    pointwise [hist, k0_pay5, k0_pay4]
    refine Finset.sum_congr rfl fun x _ => ?_
    rw [quot_word ⟨x, by omega⟩, select_eq_word _ _ (by omega) (by omega)]
  rw [h1, Fin.sum_univ_tiles 5 32 (by norm_num), Finset.sum_eq_single c]
  · refine Finset.sum_congr rfl fun h _ => ?_
    rw [if_pos (by dsimp only; omega), Fin.sum_univ_tiles 17 32 (by norm_num), Finset.sum_eq_single k]
    · rw [Finset.sum_eq_single h]
      · rw [rows_apply, mask_apply, if_pos (by dsimp only; omega), if_pos (by dsimp only; omega), one_mul]
      · intro g _ hg
        rw [mask_apply, if_neg (by dsimp only; intro e; exact hg (Fin.ext (by omega))), mul_zero]
      · intro hn; exact absurd (Finset.mem_univ _) hn
    · intro q _ hq
      refine Finset.sum_eq_zero fun g _ => ?_
      rw [rows_apply, if_neg (by dsimp only; intro e; exact hq (Fin.ext (by omega))), zero_mul]
    · intro hn; exact absurd (Finset.mem_univ _) hn
  · intro q _ hq
    refine Finset.sum_eq_zero fun g _ => ?_
    rw [if_neg (by dsimp only; intro e; exact hq (Fin.ext (by omega)))]
  · intro hn; exact absurd (Finset.mem_univ _) hn

/-! ### The loss -/

/-- The result the last point computes from the array. -/
def finish (acc : Vec Ideal S544x160 .f32) : FVec Ideal S1x1 .f32 :=
  k0_pay1
    (k0_pay6 (k0_pay2 acc) k0_pay3 (iota Kind.tc S160x5 32 [0] iota_S160x5_d0_w32)
      (iota Kind.tc S160x5 32 [1] iota_S160x5_d1_w32) 32#32 k0_pay4 0#32)
    (k0_pay7 (k0_pay2 acc) k0_pay3 (iota Kind.tc S160x5 32 [0] iota_S160x5_d0_w32)
      (iota Kind.tc S160x5 32 [1] iota_S160x5_d1_w32) 32#32 k0_pay4 0#32)
    (k0_pay8 (k0_pay2 acc) k0_pay3 (iota Kind.tc S160x5 32 [0] iota_S160x5_d0_w32)
      (iota Kind.tc S160x5 32 [1] iota_S160x5_d1_w32) 32#32 k0_pay4 0#32)
    (k0_pay9 (k0_pay2 acc) k0_pay3 (iota Kind.tc S160x5 32 [0] iota_S160x5_d0_w32)
      (iota Kind.tc S160x5 32 [1] iota_S160x5_d1_w32) 32#32 k0_pay4 0#32)

/-- The result is the loss of the matrix: its first 16 rows and 4 columns the joint sums, its last column the camera sums and
    its last row the label sums. -/
theorem finish_apply (acc : Vec Ideal S544x160 .f32) :
    finish acc (ix2 0 0)
      = loss (fun i j => hist acc (ix2 ⟨i.val, by omega⟩ ⟨j.val, by omega⟩)) (fun i => hist acc (ix2 ⟨i.val, by omega⟩ 4))
          (fun j => hist acc (ix2 16 ⟨j.val, by omega⟩)) := by
  pointwise [finish, k0_pay1, k0_pay6, k0_pay7, k0_pay8, k0_pay9]
  simp only [Finset.univ_unique, Finset.sum_singleton]
  unfold loss mutualInfo negEntropy joint margin
  rw [zero_sub]
  rfl

end Cert.KernelIdeal.NidValue

end
-- ==== Proof.Points.lean ====
/- What the kernel's body leaves at each grid point, read from the generated run.

   The first point clears the 544 by 160 array and adds its strip; every later point adds its strip; the last point also
   computes the result from the array. -/
module

public import proofs.«01_k».proof.Proof.Gen.KernelIdeal.Frame
public import proofs.«01_k».proof.Proof.Block
public import proofs.«01_k».proof.Proof.Final
public import Idealize.ShloMosaic.Lib.Pipeline.Value
public import Idealize.ShloMosaic.Lib.Tactic

@[expose] public section

set_option maxRecDepth 16384

noncomputable section

namespace Cert.KernelIdeal.NidValue

open Cert.KernelIdeal Cert.KernelIdeal.Gen Idealize.ShloMosaic

theorem zero2 : (![0, 0] : Fin 2 → Nat) = fun _ => 0 := funext fun a => by fin_cases a <;> rfl

theorem zero4 : (![0, 0, 0, 0] : Fin 4 → Nat) = fun _ => 0 := funext fun a => by fin_cases a <;> rfl

/-- A point in the middle adds its strip to the array. -/
theorem array_B (c : Dev nD) (i : grid0.Coords) (a1 : Memref sig .tc .vmem S8x3x32x1024 .f32) (h1 : a1.IsWhole)
    (a2 : Memref sig .tc .vmem S8x4x32x1024 .f32) (h2 : a2.IsWhole) (a3 : Memref sig .tc .vmem S1x1 .f32) (h3 : a3.IsWhole)
    (a4 : Memref sig .tc .vmem S544x160 .f32) (h4 : a4.IsWhole) (hc0 : ¬cond0_0 i) (hc1 : ¬cond0_1 i)
    (x : Vec Ideal S8x3x32x1024 .f32) (y : Vec Ideal S8x4x32x1024 .f32) (acc : Vec Ideal S544x160 .f32) :
    sout0_B_0 c i a1 h1 a2 h2 a3 h3 a4 h4 hc0 hc1 x y acc = step x y acc := by
  unfold sout0_B_0
  rw [View.read_writes_eq_canon _ _ _ (scover0_B_0 c i a1 h1 a2 h2 a3 h3 a4 h4 hc0 hc1 x y acc)]
  unfold kernelRun0_B
  dsimp only
  sl_unfold_words
  rw [View.canon_unit_zero zero2]
  simp only [View.readAt_eq_ld, h1.read_unread, h2.read_unread, h4.read_unread, View.ld_unit_zero (S := S544x160) zero2,
    View.ld_unit_zero (S := S8x3x32x1024) zero4, View.ld_unit_zero (S := S8x4x32x1024) zero4, shapeCast_self]
  unfold step camBlk labSum
  rfl

/-- The first point clears the array and adds its strip. -/
theorem array_A (c : Dev nD) (i : grid0.Coords) (a1 : Memref sig .tc .vmem S8x3x32x1024 .f32) (h1 : a1.IsWhole)
    (a2 : Memref sig .tc .vmem S8x4x32x1024 .f32) (h2 : a2.IsWhole) (a3 : Memref sig .tc .vmem S1x1 .f32) (h3 : a3.IsWhole)
    (a4 : Memref sig .tc .vmem S544x160 .f32) (h4 : a4.IsWhole) (hc0 : cond0_0 i) (hc1 : ¬cond0_1 i)
    (x : Vec Ideal S8x3x32x1024 .f32) (y : Vec Ideal S8x4x32x1024 .f32) :
    sout0_A_0 c i a1 h1 a2 h2 a3 h3 a4 h4 hc0 hc1 x y = step x y (k0_pay36 (F := Ideal)) := by
  unfold sout0_A_0
  rw [View.read_writes_eq_canon _ _ _ (scover0_A_0 c i a1 h1 a2 h2 a3 h3 a4 h4 hc0 hc1 x y)]
  unfold kernelRun0_A
  dsimp only
  sl_unfold_words
  rw [View.canon_cons_unit_zero (S := S544x160) zero2, View.readCov_unit_zero (S := S544x160) _ zero2]
  simp only [View.readAt_eq_ld, h1.read_unread, h2.read_unread,
    View.ld_unit_zero (S := S8x3x32x1024) zero4, View.ld_unit_zero (S := S8x4x32x1024) zero4, shapeCast_self]
  unfold step camBlk labSum
  rfl

/-- The last point leaves in the output the result computed from the array with its strip added. -/
theorem out_C (c : Dev nD) (i : grid0.Coords) (a1 : Memref sig .tc .vmem S8x3x32x1024 .f32) (h1 : a1.IsWhole)
    (a2 : Memref sig .tc .vmem S8x4x32x1024 .f32) (h2 : a2.IsWhole) (a3 : Memref sig .tc .vmem S1x1 .f32) (h3 : a3.IsWhole)
    (a4 : Memref sig .tc .vmem S544x160 .f32) (h4 : a4.IsWhole) (hc0 : ¬cond0_0 i) (hc1 : cond0_1 i)
    (x : Vec Ideal S8x3x32x1024 .f32) (y : Vec Ideal S8x4x32x1024 .f32) (acc : Vec Ideal S544x160 .f32) :
    out0_C_2 c i a1 h1 a2 h2 a3 h3 a4 h4 hc0 hc1 x y acc = finish (step x y acc) := by
  unfold out0_C_2
  rw [View.read_writes_eq_canon _ _ _ (cover0_C_2 c i a1 h1 a2 h2 a3 h3 a4 h4 hc0 hc1 x y acc)]
  unfold kernelRun0_C
  dsimp only
  sl_unfold_words
  rw [View.canon_unit_zero zero2]
  simp only [View.readAt_eq_ld, h1.read_unread, h2.read_unread, h4.read_unread, View.readCov_unit_zero (S := S544x160) _ zero2, View.ld_unit_zero (S := S544x160) zero2,
    View.ld_unit_zero (S := S8x3x32x1024) zero4, View.ld_unit_zero (S := S8x4x32x1024) zero4, shapeCast_self]
  unfold finish step camBlk labSum
  rfl

end Cert.KernelIdeal.NidValue

end
-- ==== Proof.Hist.lean ====
/- The two-dimensional soft histogram of a pair of image batches, and its sums taken strip by strip. -/
module

public import proofs.«01_k».proof.Proof.Pixel
public import proofs.«01_k».proof.Proof.Consts
public import proofs.«01_k».proof.Proof.Tail
public import Idealize.ShloMosaic.Lib.Pointwise

@[expose] public section

noncomputable section

namespace Cert.Nid

open Idealize.ShloMosaic

variable (cam : Fin 8 → Fin 3 → Fin 512 → Fin 1024 → EReal) (lab : Fin 8 → Fin 4 → Fin 512 → Fin 1024 → EReal)

/-- The channel sums of the eight images at a pixel. -/
def camPix (H : Fin 512) (W : Fin 1024) (b : Fin 8) : EReal := cam b 0 H W + cam b 1 H W + cam b 2 H W

/-- The soft arg-max of the eight labels at a pixel. -/
def labPix (H : Fin 512) (W : Fin 1024) (b : Fin 8) : ℝ := argm epsSm fun c => lab b c H W

/-- The sum over the pixels of row `k` of the camera weights times row `c` of the label weights; a row past the bins is one. -/
def total (k c : ℕ) : ℝ := ∑ H, ∑ W, camRow (camPix cam H W) k * labRow (labPix lab H W) c

/-- What strip `t` of 32 image rows adds to entry `(i, j)` of the 544 by 160 array. -/
def stripTotal (t i j : ℕ) : ℝ :=
  ∑ W, camRow (camPix cam (Fin.ofNat 512 (t * 32 + i % 32)) W) (i / 32)
    * labRow (labPix lab (Fin.ofNat 512 (t * 32 + j % 32)) W) (j / 32)

/-- Block `(k, c)` of the array after 16 strips has trace `total k c`. -/
theorem trace_total (k c : ℕ) :
    ∑ h : Fin 32, ∑ t ∈ Finset.range 16, stripTotal cam lab t (k * 32 + h.val) (c * 32 + h.val) = total cam lab k c := by
  unfold total
  refine Eq.trans ?_ (Fin.sum_univ_tiles 16 32 (by norm_num) _).symm
  rw [Finset.sum_comm, Finset.sum_range]
  refine Finset.sum_congr rfl fun t _ => Finset.sum_congr rfl fun h _ => ?_
  have hH : ∀ n : ℕ, Fin.ofNat 512 (t.val * 32 + (n * 32 + h.val) % 32) = ⟨t.val * 32 + h.val, by omega⟩ := fun n =>
    Fin.ext (by rw [Fin.val_ofNat]; dsimp only; omega)
  have hq : ∀ n : ℕ, (n * 32 + h.val) / 32 = n := fun n => by omega
  unfold stripTotal
  rw [hH, hH, hq, hq]

/-- The loss of the two batches. -/
def nid : EReal :=
  loss (fun i j => (total cam lab i.val j.val : EReal)) (fun i => (total cam lab i.val 4 : EReal))
    (fun j => (total cam lab 16 j.val : EReal))

end Cert.Nid

end
-- ==== Proof.Array.lean ====
/- What the kernel's 544 by 160 array holds after each grid point, and the result of the whole run. -/
module

public import proofs.«01_k».proof.Proof.Gen.KernelIdeal.Value
public import proofs.«01_k».proof.Proof.Points
public import proofs.«01_k».proof.Proof.Hist

@[expose] public section

set_option maxRecDepth 16384

noncomputable section

namespace Cert.KernelIdeal.NidValue

open Cert.KernelIdeal Cert.KernelIdeal.Gen Cert.Nid Idealize.ShloMosaic Idealize.ShloMosaic.TcCoe

variable (m : (ℓ : Loc nD τ sig) → Buf (Elt Ideal) ℓ)

/-- The camera images, by image, channel, row and column. -/
def camIn (c : Dev nD) (b : Fin 8) (ch : Fin 3) (H : Fin 512) (W : Fin 1024) : EReal :=
  (m ((c : Thread nD τ).loc main_arg0) : FVec Ideal S8x3x512x1024 .f32) (ix4 b ch H W)

/-- The label scores, by image, class, row and column. -/
def labIn (c : Dev nD) (b : Fin 8) (ch : Fin 4) (H : Fin 512) (W : Fin 1024) : EReal :=
  (m ((c : Thread nD τ).loc main_arg1) : FVec Ideal S8x4x512x1024 .f32) (ix4 b ch H W)

theorem index_cam : ∀ t : Fin grid0.N, win0_0.index t 0 = 0 ∧ win0_0.index t 1 = 0 ∧ win0_0.index t 2 = t.val ∧ win0_0.index t 3 = 0 := by
  decide +kernel

theorem index_lab : ∀ t : Fin grid0.N, win0_1.index t 0 = 0 ∧ win0_1.index t 1 = 0 ∧ win0_1.index t 2 = t.val ∧ win0_1.index t 3 = 0 := by
  decide +kernel

/-- The camera block a point reads is its strip of 32 image rows. -/
theorem block_cam (c : Dev nD) (t : Fin cfg0.N) (b : Fin 8) (ch : Fin 3) (h : Fin 32) (w : Fin 1024) :
    (iblk m c 0 t : Vec Ideal S8x3x32x1024 .f32) (ix4 b ch h w) = camIn m c b ch (Fin.ofNat 512 (t.val * 32 + h.val)) w := by
  have ht : t.val < 16 := lt_of_lt_of_eq t.isLt N_0
  obtain ⟨e0, e1, e2, e3⟩ := index_cam t
  unfold iblk camIn
  rw [View.read_apply]
  show V m c main_arg0 _ = m (c.tc.loc main_arg0) _
  unfold V
  congr 1
  funext a
  apply Fin.ext
  match a with
  | ⟨0, _⟩ => show win0_0.index t 0 * 8 + 1 * b.val = b.val; rw [e0]; omega
  | ⟨1, _⟩ => show win0_0.index t 1 * 3 + 1 * ch.val = ch.val; rw [e1]; omega
  | ⟨2, _⟩ => show win0_0.index t 2 * 32 + 1 * h.val = (t.val * 32 + h.val) % 512; rw [e2]; omega
  | ⟨3, _⟩ => show win0_0.index t 3 * 1024 + 1 * w.val = w.val; rw [e3]; omega

/-- The label block a point reads is its strip of 32 image rows. -/
theorem block_lab (c : Dev nD) (t : Fin cfg0.N) (b : Fin 8) (ch : Fin 4) (h : Fin 32) (w : Fin 1024) :
    (iblk m c 1 t : Vec Ideal S8x4x32x1024 .f32) (ix4 b ch h w) = labIn m c b ch (Fin.ofNat 512 (t.val * 32 + h.val)) w := by
  have ht : t.val < 16 := lt_of_lt_of_eq t.isLt N_0
  obtain ⟨e0, e1, e2, e3⟩ := index_lab t
  unfold iblk labIn
  rw [View.read_apply]
  show V m c main_arg1 _ = m (c.tc.loc main_arg1) _
  unfold V
  congr 1
  funext a
  apply Fin.ext
  match a with
  | ⟨0, _⟩ => show win0_1.index t 0 * 8 + 1 * b.val = b.val; rw [e0]; omega
  | ⟨1, _⟩ => show win0_1.index t 1 * 4 + 1 * ch.val = ch.val; rw [e1]; omega
  | ⟨2, _⟩ => show win0_1.index t 2 * 32 + 1 * h.val = (t.val * 32 + h.val) % 512; rw [e2]; omega
  | ⟨3, _⟩ => show win0_1.index t 3 * 1024 + 1 * w.val = w.val; rw [e3]; omega

/-- Point `t` adds its strip's products to the array. -/
theorem step_block (c : Dev nD) (t : Fin cfg0.N) (acc : Vec Ideal S544x160 .f32) (i : Fin 544) (j : Fin 160) :
    step (iblk m c 0 t) (iblk m c 1 t) acc (ix2 i j)
      = acc (ix2 i j) + (stripTotal (camIn m c) (labIn m c) t.val i.val j.val : EReal) := by
  rw [step_apply]
  have hs : ∀ h w, camS (iblk m c 0 t) h w = camPix (camIn m c) (Fin.ofNat 512 (t.val * 32 + h.val)) w := fun h w => by
    funext b; unfold camS camPix; rw [block_cam, block_cam, block_cam]
  have ha : ∀ h w, labA (iblk m c 1 t) h w = labPix (labIn m c) (Fin.ofNat 512 (t.val * 32 + h.val)) w := fun h w => by
    funext b; unfold labA labPix
    exact congrArg (argm epsSm) (funext fun ch => block_lab m c t b ch h w)
  unfold stripTotal
  simp only [hs, ha]

/-- After point `n`, before the last, an entry of the array is the sum of the strips so far. -/
theorem array_after (c : Dev nD) (i : Fin 544) (j : Fin 160) : ∀ (n : ℕ) (h : n < cfg0.N), n < 15 →
    (outsAt0 m c n h).2 (ix2 i j)
      = ((∑ t ∈ Finset.range (n + 1), stripTotal (camIn m c) (labIn m c) t i.val j.val : ℝ) : EReal)
  | 0, h, _ => by
    rw [outsAt0_A m c ⟨0, h⟩ (Nat.zero_mod _) (by dsimp only; omega)]
    dsimp only
    rw [array_A, step_block, Finset.sum_range_one]
    pointwise [k0_pay36]
  | n + 1, h, hn => by
    rw [outsAt0_B m c ⟨n + 1, h⟩ (by dsimp only; omega) (by dsimp only; omega)]
    dsimp only
    rw [array_B, step_block, Finset.sum_range_succ _ (n + 1)]
    refine Eq.trans ?_ (EReal.coe_add _ _).symm
    exact congrArg (· + _) (array_after c i j n (Nat.lt_of_succ_lt h) (Nat.lt_of_succ_lt hn))

/-- The kernel's result is the loss of the two batches. -/
theorem result_eq (c : Dev nD) : Value.G2 m c = fun _ => nid (camIn m c) (labIn m c) := by
  have h15 : 15 < cfg0.N := lt_of_lt_of_eq (by decide) N_0.symm
  rw [Value.G2_last, ← Value.outsAt0_sweep m c 15 h15, outsAt0_C m c ⟨15, h15⟩ (by dsimp only; omega) (by dsimp only)]
  dsimp only
  rw [out_C]
  funext z
  obtain rfl : z = ix2 0 0 := funext fun a => by
    match a with
    | ⟨0, _⟩ => exact Fin.ext (Nat.lt_one_iff.mp (z 0).isLt)
    | ⟨1, _⟩ => exact Fin.ext (Nat.lt_one_iff.mp (z 1).isLt)
  rw [finish_apply]
  have hh : ∀ (k : Fin 17) (l : Fin 5),
      hist (step (iblk m c 0 ⟨15, h15⟩) (iblk m c 1 ⟨15, h15⟩) (outsAt0 m c 14 (Nat.lt_of_succ_lt h15)).2) (ix2 k l)
        = (total (camIn m c) (labIn m c) k.val l.val : EReal) := by
    intro k l
    rw [hist_apply, ← trace_total]
    refine Eq.trans (Finset.sum_congr rfl fun h _ => ?_) (coe_sum _ _).symm
    rw [step_block, array_after m c _ _ 14 _ (by norm_num), Finset.sum_range_succ _ 15]
    exact (EReal.coe_add _ _).symm
  unfold nid
  simp only [show (⟨15, h15⟩ : Fin cfg0.N).val - 1 = 14 from rfl, hh]
  rfl

end Cert.KernelIdeal.NidValue

end
-- ==== Proof.RefRows.lean ====
/- What the reference computes at each pixel: the sixteen camera weights and the four label weights, summed over the batch. -/
module

public import proofs.«01_k».proof.Proof.Gen.ReferenceIdeal.Read
public import proofs.«01_k».proof.Proof.Hist
public import Idealize.ShloMosaic.Lib.Pointwise

@[expose] public section

set_option maxRecDepth 16384

noncomputable section

namespace Cert.ReferenceIdeal.NidValue

open Cert.ReferenceIdeal Cert.ReferenceIdeal.Gen Cert.ReferenceIdeal.Read Cert.Nid Idealize.ShloMosaic

/-- The camera images, by image, channel, row and column. -/
def camOf (x0 : FVec Ideal S8x3x512x1024 .f32) (b : Fin 8) (ch : Fin 3) (H : Fin 512) (W : Fin 1024) : EReal := x0 (ix4 b ch H W)

/-- The label scores, by image, class, row and column. -/
def labOf (x1 : FVec Ideal S8x4x512x1024 .f32) (b : Fin 8) (ch : Fin 4) (H : Fin 512) (W : Fin 1024) : EReal := x1 (ix4 b ch H W)

/-- The image row of pixel `n`. -/
def rowOf (n : Fin 524288) : Fin 512 := ⟨n.val / 1024, by omega⟩

/-- The image column of pixel `n`. -/
def colOf (n : Fin 524288) : Fin 1024 := ⟨n.val % 1024, by omega⟩

/-- The grey image: a third of the channel sum. -/
theorem grey_apply (x0 : FVec Ideal S8x3x512x1024 .f32) (b : Fin 8) (n : Fin 524288) :
    val_main_v18 (F := Ideal) x0 (ix2 b n) = camPix (camOf x0) (rowOf n) (colOf n) b * ((1 / 3 : ℝ) : EReal) := by
  pointwise [val_main_v18, val_main_v2, val_main_v1, val_main_v0, val_main_cst_0, val_main_cst]
  rw [lit_3, Ideal.div_coe (by norm_num : (3 : ℝ) ≠ 0), Fin.sum_univ_three]
  rfl

/-- The difference of two logistic functions of doubled arguments, as tangents. -/
theorem bin_eq (u v : EReal) :
    Ideal.div 1 (1 + Ideal.exp (-(((2 : ℝ) : EReal) * u))) - Ideal.div 1 (1 + Ideal.exp (-(((2 : ℝ) : EReal) * v)))
      = ((1 / 2 * (th u - th v) : ℝ) : EReal) := by
  rw [logistic_two, logistic_two, ← EReal.coe_sub]
  congr 1
  ring

/-- The camera weights: row `k` of the camera side at the pixel. -/
theorem cam_apply (x0 : FVec Ideal S8x3x512x1024 .f32) (k : Fin 16) (n : Fin 524288) :
    val_main_v51 (F := Ideal) x0 (ix2 k n) = (camW (camPix (camOf x0) (rowOf n) (colOf n)) k.val : EReal) := by
  pointwise [val_main_v51, val_main_v50, val_main_v49, val_main_v48, val_main_v47, val_main_v46, val_main_v45, val_main_v44,
      val_main_v43, val_main_v42, val_main_v41, val_main_v40, val_main_v39, val_main_v38, val_main_v37, val_main_v36,
      val_main_v35, val_main_v34, val_main_v33, val_main_v32, val_main_v31, val_main_v30, val_main_v29, val_main_v28,
      val_main_v27, val_main_v26, val_main_v25, val_main_v24, val_main_v23, val_main_v22, val_main_v21, val_main_v20,
      val_main_cst_5, val_main_cst_6, val_main_cst_7, val_main_cst_8, val_main_cst_9, val_main_cst_10, val_main_cst_11,
      val_main_cst_12, val_main_cst_13, val_main_cst_14, val_main_cst_15]
  have hc : ((1 / 16 : ℝ) : EReal) * (((k.val : ℝ) : EReal) + ((1 / 2 : ℝ) : EReal)) = ((1 / 16 * (k.val + 1 / 2) : ℝ) : EReal) := by
    rw [← EReal.coe_add, ← EReal.coe_mul]
  simp only [grey_apply, ofNat_real k.val (by omega), lit_16th, lit_32nd, lit_half, lit_200, hc, cam_lower, cam_upper, bin_eq]
  refine Eq.trans (coe_sum _ _).symm (congrArg _ ?_)
  unfold camW
  rw [← Finset.mul_sum, Finset.sum_sub_distrib]
  rfl

/-- The soft arg-max of the labels. -/
theorem argmax_apply (x1 : FVec Ideal S8x4x512x1024 .f32) (b : Fin 8) (n : Fin 524288) :
    val_main_v19 (F := Ideal) x1 (ix2 b n) = (labPix (labOf x1) (rowOf n) (colOf n) b : EReal) := by
  pointwise [val_main_v19, val_main_v17, val_main_v16, val_main_v15, val_main_v14, val_main_v13, val_main_v12, val_main_v11,
      val_main_v10, val_main_v9, val_main_v8, val_main_v7, val_main_v6, val_main_v5, val_main_v4, val_main_v3, val_main_cst_1,
      val_main_cst_2, val_main_cst_3, val_main_cst_4]
  have hw : ∀ c : Fin 4,
      Ideal.exp ((x1 (ix4 b c (rowOf n) (colOf n)) - Finset.fold max (⊥ : EReal) (fun x => x1 (ix4 b x (rowOf n) (colOf n))) Finset.univ)
          * ((500 : ℝ) : EReal))
        = (wt (fun c => labOf x1 b c (rowOf n) (colOf n)) c : EReal) := fun c => exp_eq_wt (fun c => labOf x1 b c (rowOf n) (colOf n)) c
  unfold rowOf colOf at hw
  simp only [lit_bot, lit_500, lit_eps, hw, ofNat_real _ (show (_ : Fin 4).val < 17 by omega)]
  exact argm_sum epsSm_pos _

/-- The label weights: row `k` of the label side at the pixel. -/
theorem lab_apply (x1 : FVec Ideal S8x4x512x1024 .f32) (k : Fin 4) (n : Fin 524288) :
    val_main_v79 (F := Ideal) x1 (ix2 k n) = (labW (labPix (labOf x1) (rowOf n) (colOf n)) k.val : EReal) := by
  pointwise [val_main_v79, val_main_v78, val_main_v77, val_main_v76, val_main_v75, val_main_v74, val_main_v73, val_main_v72,
      val_main_v71, val_main_v70, val_main_v69, val_main_v68, val_main_v67, val_main_v66, val_main_v65, val_main_v64,
      val_main_v63, val_main_v62, val_main_v61, val_main_v60, val_main_v59, val_main_v58, val_main_v57, val_main_v56,
      val_main_v55, val_main_v54, val_main_v53, val_main_v52, val_main_cst_16, val_main_cst_17, val_main_cst_18, val_main_cst_19,
      val_main_cst_20, val_main_cst_21, val_main_cst_22, val_main_cst_23, val_main_cst_24]
  simp only [argmax_apply, ofNat_real k.val (by omega), lit_half, lit_1000, lab_lower, lab_upper, bin_eq]
  refine Eq.trans (coe_sum _ _).symm (congrArg _ ?_)
  unfold labW
  rw [← Finset.mul_sum, Finset.sum_sub_distrib]
  rfl

end Cert.ReferenceIdeal.NidValue

end
-- ==== Proof.RefLoss.lean ====
/- What the reference computes from the rows: the histogram sums over all pixels, and the loss. -/
module

public import proofs.«01_k».proof.Proof.RefRows

@[expose] public section

set_option maxRecDepth 16384

noncomputable section

namespace Cert.ReferenceIdeal.NidValue

open Cert.ReferenceIdeal Cert.ReferenceIdeal.Gen Cert.ReferenceIdeal.Read Cert.Nid Idealize.ShloMosaic

/-- A sum over the pixels in order is a sum over rows and columns. -/
theorem pixel_sum (f : Fin 512 → Fin 1024 → ℝ) : ∑ n, f (rowOf n) (colOf n) = ∑ H, ∑ W, f H W := by
  refine (Fin.sum_univ_tiles 512 1024 (by norm_num) _).trans (Finset.sum_congr rfl fun H _ => Finset.sum_congr rfl fun W _ => ?_)
  congr 1
  · exact Fin.ext (by unfold rowOf; dsimp only; omega)
  · exact Fin.ext (by unfold colOf; dsimp only; omega)

/-- The histogram sum of rows `k` and `c`, as a sum over the pixels in order. -/
theorem total_eq (cam : Fin 8 → Fin 3 → Fin 512 → Fin 1024 → EReal) (lab : Fin 8 → Fin 4 → Fin 512 → Fin 1024 → EReal) (k c : ℕ) :
    (total cam lab k c : EReal)
      = ∑ n, ((camRow (camPix cam (rowOf n) (colOf n)) k * labRow (labPix lab (rowOf n) (colOf n)) c : ℝ) : EReal) :=
  (congrArg _ (pixel_sum fun H W => camRow (camPix cam H W) k * labRow (labPix lab H W) c).symm).trans (coe_sum _ _)

variable (x0 : FVec Ideal S8x3x512x1024 .f32) (x1 : FVec Ideal S8x4x512x1024 .f32)

/-- The joint sums. -/
theorem joint_apply (k : Fin 16) (c : Fin 4) :
    val_main_v81 (F := Ideal) x0 x1 (ix2 k c) = (total (camOf x0) (labOf x1) k.val c.val : EReal) := by
  pointwise [val_main_v81, val_main_v80]
  rw [total_eq]
  refine Finset.sum_congr rfl fun n _ => ?_
  rw [cam_apply, lab_apply, camRow, labRow, if_pos k.isLt, if_pos c.isLt]
  exact (EReal.coe_mul _ _).symm

/-- The camera sums. -/
theorem camSum_apply (k : Fin 16) : val_main_v84 (F := Ideal) x0 (ix1 k) = (total (camOf x0) (labOf x1) k.val 4 : EReal) := by
  pointwise [val_main_v84, val_main_cst_26]
  rw [total_eq]
  refine Finset.sum_congr rfl fun n _ => ?_
  rw [cam_apply, camRow, labRow, if_pos k.isLt, if_neg (lt_irrefl 4), mul_one]

/-- The label sums. -/
theorem labSum_apply (c : Fin 4) : val_main_v87 (F := Ideal) x1 (ix1 c) = (total (camOf x0) (labOf x1) 16 c.val : EReal) := by
  pointwise [val_main_v87, val_main_cst_28]
  rw [total_eq]
  refine Finset.sum_congr rfl fun n _ => ?_
  rw [lab_apply, camRow, labRow, if_neg (lt_irrefl 16), if_pos c.isLt, one_mul]

/-- The reference's result is the loss of the two batches. -/
theorem result_eq : val_main_v120 (F := Ideal) x0 x1 = fun _ => nid (camOf x0) (labOf x1) := by
  funext z
  obtain rfl : z = ix2 0 0 := funext fun a => by
    match a with
    | ⟨0, _⟩ => exact Fin.ext (Nat.lt_one_iff.mp (z 0).isLt)
    | ⟨1, _⟩ => exact Fin.ext (Nat.lt_one_iff.mp (z 1).isLt)
  pointwise [val_main_v120, val_main_v119, val_main_v118, val_main_v117, val_main_v116, val_main_v115, val_main_v114, val_main_v113,
      val_main_v112, val_main_v111, val_main_v110, val_main_v109, val_main_v108, val_main_v107, val_main_v106, val_main_v105,
      val_main_v104, val_main_v103, val_main_v102, val_main_v101, val_main_v100, val_main_v99, val_main_v98, val_main_v97,
      val_main_v96, val_main_v95, val_main_v94, val_main_v93, val_main_v92, val_main_v91, val_main_v90, val_main_v89,
      val_main_v88, val_main_v86, val_main_v85, val_main_v83, val_main_v82, val_main_cst_25, val_main_cst_27, val_main_cst_29,
      val_main_cst_30, val_main_cst_31, val_main_cst_32, val_main_cst_33, val_main_cst_34, val_main_cst_35, val_main_cst_36,
      val_main_cst_37, val_main_cst_38, val_main_cst_39]
  simp only [joint_apply, camSum_apply x0 x1, labSum_apply x0 x1]
  unfold nid loss mutualInfo negEntropy joint margin
  rfl

end Cert.ReferenceIdeal.NidValue

end
-- ==== Proof.lean ====
/- The five claims, assembled.

   The three programs run without fault, leave their arguments unchanged and end with every semaphore at zero. Naming the
   kernel's constant 100/3 is a sanctioned rewrite. And over the extended reals the kernel and the reference give the same
   result, `Cert.Nid.nid` of the two batches: `Cert.KernelIdeal.NidValue.result_eq` and `Cert.ReferenceIdeal.NidValue.result_eq`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.RefLoss
public import Idealize.ShloMosaic.Lib.Quiescent
public import Idealize.ShloMosaic.Adequacy
public import Idealize.ShloMosaic.Init

@[expose] public section

noncomputable section

namespace Cert.Proof

open Idealize.ShloMosaic Idealize.SL.Sem

/-- The kernel at the machine's own floating point runs, keeps its arguments, and ends quiescent. -/
theorem frame_kernel : Cert.quiescent_Kernel (hKernel := Cert.Kernel.Gen.facts) := fun m g _ => Cert.Kernel.Gen.frame m g

/-- So does the kernel over the extended reals. -/
theorem frame_ideal : Cert.quiescent_KernelIdeal (hKernelIdeal := Cert.KernelIdeal.Gen.facts) := fun m g _ =>
  Cert.KernelIdeal.Gen.frame m g

/-- So does the reference, which has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl _⟩) (Cert.ReferenceIdeal.Value.run m g)

/-- The rewrite names the kernel's constant one hundred thirds. -/
theorem preserved : Cert.preserves_Kernel_KernelIdeal :=
  IdealRules.named_const.statement Cert.KernelIdeal.κ "third" .f32 0x42055555#32 ((100 / 3 : ℝ) : EReal) rfl

/-- From equal arguments, the kernel and the reference end with equal results. -/
theorem equal :
    Cert.algebraic_KernelIdeal_ReferenceIdeal (hKernelIdeal := Cert.KernelIdeal.Gen.facts)
      (hReferenceIdeal := Cert.ReferenceIdeal.Gen.facts) := by
  intro m g m' g' _ hagree
  refine ⟨fun c => Cert.KernelIdeal.Value.G2 m c, Cert.KernelIdeal.Value.run m g, ?_⟩
  refine (θ_run _ _ _).mono (fun r h c => ⟨(h c).1.trans ?_, (h c).2⟩) (Cert.ReferenceIdeal.Value.run m' g')
  rw [Cert.ReferenceIdeal.Read.val_main_v120_eq, (hagree c).1, (hagree c).2]
  exact (Cert.ReferenceIdeal.NidValue.result_eq _ _).trans (Cert.KernelIdeal.NidValue.result_eq m c).symm

theorem claim : Cert.Claim :=
  ⟨Cert.Kernel.Gen.facts, Cert.KernelIdeal.Gen.facts, Cert.ReferenceIdeal.Gen.facts, frame_kernel, frame_ideal, frame_reference,
    preserved, equal⟩

end Cert.Proof

end
